-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x1024x3 : Shape := ⟨3, ![4, 1024, 3]⟩
abbrev S4x4096x3 : Shape := ⟨3, ![4, 4096, 3]⟩
abbrev S_ : Shape := ⟨0, ![]⟩

class Facts : Prop where
  bcast_S_S4x1024x3 : S_.BroadcastsInDim S4x1024x3 (![] : Fin 0 → Fin S4x1024x3.rank)
  bcast_S_S4x4096x3 : S_.BroadcastsInDim S4x4096x3 (![] : Fin 0 → Fin S4x4096x3.rank)

variable [Facts]

def fn {F : FTy → Type} [FloatOps F] (main_arg0 : FVec F S4x1024x3 .f32) (main_arg1 : FVec F S4x4096x3 .f32) (main_arg2 : FVec F S4x4096x3 .f32) (main_arg3 : FVec F S_ .f32) : IVec S4x1024x3 1 × IVec S4x4096x3 1 × IVec S4x4096x3 1 :=
  let main_v0 : FVec F S4x1024x3 .f32 := Host.absf main_arg0
  let main_cst : FVec F S_ .f32 := constant S_ .f32 0x7F800000#32
  let main_v1 : FVec F S4x1024x3 .f32 := broadcastInDim S4x1024x3 ![] bcast_S_S4x1024x3 main_cst
  let main_v2 : IVec S4x1024x3 1 := cmpf .olt main_v0 main_v1
  let main_v3 : FVec F S4x4096x3 .f32 := Host.absf main_arg1
  let main_cst_0 : FVec F S_ .f32 := constant S_ .f32 0x7F800000#32
  let main_v4 : FVec F S4x4096x3 .f32 := broadcastInDim S4x4096x3 ![] bcast_S_S4x4096x3 main_cst_0
  let main_v5 : IVec S4x4096x3 1 := cmpf .olt main_v3 main_v4
  let main_v6 : FVec F S4x4096x3 .f32 := Host.absf main_arg2
  let main_cst_1 : FVec F S_ .f32 := constant S_ .f32 0x7F800000#32
  let main_v7 : FVec F S4x4096x3 .f32 := broadcastInDim S4x4096x3 ![] bcast_S_S4x4096x3 main_cst_1
  let main_v8 : IVec S4x4096x3 1 := cmpf .olt main_v6 main_v7
  (main_v2, main_v5, main_v8)
-- ==== Kernel.lean ====
abbrev S4x1024x3 : Shape := ⟨3, ![4, 1024, 3]⟩
abbrev S4x4096x3 : Shape := ⟨3, ![4, 4096, 3]⟩
abbrev S_ : Shape := ⟨0, ![]⟩
abbrev S1x1 : Shape := ⟨2, ![1, 1]⟩
abbrev S1x1024x3 : Shape := ⟨3, ![1, 1024, 3]⟩
abbrev S1x4096x3 : Shape := ⟨3, ![1, 4096, 3]⟩
abbrev S1x4 : Shape := ⟨2, ![1, 4]⟩
abbrev S4096x3 : Shape := ⟨2, ![4096, 3]⟩
abbrev S4096 : Shape := ⟨1, ![4096]⟩
abbrev S4096x1 : Shape := ⟨2, ![4096, 1]⟩
abbrev S4096x8 : Shape := ⟨2, ![4096, 8]⟩
abbrev S1024x3 : Shape := ⟨2, ![1024, 3]⟩
abbrev S1024 : Shape := ⟨1, ![1024]⟩
abbrev S1024x1 : Shape := ⟨2, ![1024, 1]⟩
abbrev S1024x8 : Shape := ⟨2, ![1024, 8]⟩
abbrev S1x4096 : Shape := ⟨2, ![1, 4096]⟩
abbrev S1024x4096 : Shape := ⟨2, ![1024, 4096]⟩
abbrev S1x1024x1 : Shape := ⟨3, ![1, 1024, 1]⟩
abbrev S1 : Shape := ⟨1, ![1]⟩
abbrev S1x1x1 : Shape := ⟨3, ![1, 1, 1]⟩
abbrev S1x1x4096 : Shape := ⟨3, ![1, 1, 4096]⟩

abbrev nBuf : Space → Nat
  | .hbm => 6
  | .vmem => 6
  | .smem => 3
  | _ => 0

abbrev bufTy : (tb : Table) → Fin (tcTables nBuf tb) → BufTy
  | .hbm, ⟨0, _⟩ => ⟨S4x1024x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S1x1, .f32⟩
  | .hbm, ⟨5, _⟩ => ⟨S1x1, .f32⟩
  | .local _ .vmem, ⟨0, _⟩ => ⟨S1x1024x3, .f32⟩
  | .local _ .vmem, ⟨1, _⟩ => ⟨S1x1024x3, .f32⟩
  | .local _ .vmem, ⟨2, _⟩ => ⟨S1x4096x3, .f32⟩
  | .local _ .vmem, ⟨3, _⟩ => ⟨S1x4096x3, .f32⟩
  | .local _ .vmem, ⟨4, _⟩ => ⟨S1x4096x3, .f32⟩
  | .local _ .vmem, ⟨5, _⟩ => ⟨S1x4096x3, .f32⟩
  | .local _ .smem, ⟨0, _⟩ => ⟨S1x1, .f32⟩
  | .local _ .smem, ⟨1, _⟩ => ⟨S1x1, .f32⟩
  | .local _ .smem, ⟨2, _⟩ => ⟨S1x4, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.smem, 0, rfl⟩
abbrev cc0_stg4_0 : Ref sig .tc := ⟨.smem, 1, rfl⟩
abbrev cc0_scratch0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v178 : BitVec 1 := Scalar.cmpi .eq arg0 c3_i32
  let v179 : BitVec 32 := Scalar.extui v178
  let c0_i32_80 : BitVec 32 := 0#32
  let v180 : BitVec 1 := Scalar.cmpi .ne v179 c0_i32_80
  v180

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4x1024x3 : Shape := ⟨3, ![4, 1024, 3]⟩
abbrev S4x4096x3 : Shape := ⟨3, ![4, 4096, 3]⟩
abbrev S_ : Shape := ⟨0, ![]⟩
abbrev S4x1024 : Shape := ⟨2, ![4, 1024]⟩
abbrev S4x4096 : Shape := ⟨2, ![4, 4096]⟩
abbrev S4x1024x4096 : Shape := ⟨3, ![4, 1024, 4096]⟩
abbrev S4x1024x1 : Shape := ⟨3, ![4, 1024, 1]⟩
abbrev S4x1x4096 : Shape := ⟨3, ![4, 1, 4096]⟩
abbrev S4x4096x1024 : Shape := ⟨3, ![4, 4096, 1024]⟩
abbrev S4x4096x1 : Shape := ⟨3, ![4, 4096, 1]⟩
abbrev S4x1x1024 : Shape := ⟨3, ![4, 1, 1024]⟩
abbrev S4x4096x4096 : Shape := ⟨3, ![4, 4096, 4096]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S4x1024x3, .f32⟩
  | 1 => ⟨S4x4096x3, .f32⟩
  | 2 => ⟨S4x4096x3, .f32⟩
  | 3 => ⟨S_, .f32⟩
  | 4 => ⟨S4x1024x3, .f32⟩
  | 5 => ⟨S_, .f32⟩
  | 6 => ⟨S4x1024, .f32⟩
  | 7 => ⟨S4x4096x3, .f32⟩
  | 8 => ⟨S_, .f32⟩
  | 9 => ⟨S4x4096, .f32⟩
  | 10 => ⟨S4x1024x4096, .f32⟩
  | 11 => ⟨S4x1024x1, .f32⟩
  | 12 => ⟨S4x1x4096, .f32⟩
  | 13 => ⟨S4x1024x4096, .f32⟩
  | 14 => ⟨S4x1024x4096, .f32⟩
  | 15 => ⟨S4x1024x4096, .f32⟩
  | 16 => ⟨S_, .f32⟩
  | 17 => ⟨S4x1024x4096, .f32⟩
  | 18 => ⟨S4x1024x4096, .f32⟩
  | 19 => ⟨S4x1024x4096, .f32⟩
  | 20 => ⟨S_, .f32⟩
  | 21 => ⟨S4x1024x4096, .f32⟩
  | 22 => ⟨S4x1024x4096, .f32⟩
  | 23 => ⟨S_, .f32⟩
  | 24 => ⟨S4x1024, .f32⟩
  | 25 => ⟨S4x4096x3, .f32⟩
  | 26 => ⟨S_, .f32⟩
  | 27 => ⟨S4x4096, .f32⟩
  | 28 => ⟨S4x1024x3, .f32⟩
  | 29 => ⟨S_, .f32⟩
  | 30 => ⟨S4x1024, .f32⟩
  | 31 => ⟨S4x4096x1024, .f32⟩
  | 32 => ⟨S4x4096x1, .f32⟩
  | 33 => ⟨S4x1x1024, .f32⟩
  | 34 => ⟨S4x4096x1024, .f32⟩
  | 35 => ⟨S4x4096x1024, .f32⟩
  | 36 => ⟨S4x4096x1024, .f32⟩
  | 37 => ⟨S_, .f32⟩
  | 38 => ⟨S4x4096x1024, .f32⟩
  | 39 => ⟨S4x4096x1024, .f32⟩
  | 40 => ⟨S4x4096x1024, .f32⟩
  | 41 => ⟨S_, .f32⟩
  | 42 => ⟨S4x4096x1024, .f32⟩
  | 43 => ⟨S4x4096x1024, .f32⟩
  | 44 => ⟨S_, .f32⟩
  | 45 => ⟨S4x4096, .f32⟩
  | 46 => ⟨S_, .f32⟩
  | 47 => ⟨S4x4096, .f32⟩
  | 48 => ⟨S4x4096, .f32⟩
  | 49 => ⟨S4x4096, .f32⟩
  | 50 => ⟨S_, .f32⟩
  | 51 => ⟨S_, .f32⟩
  | 52 => ⟨S_, .f32⟩
  | 53 => ⟨S_, .f32⟩
  | 54 => ⟨S_, .f32⟩
  | 55 => ⟨S4x1024, .f32⟩
  | 56 => ⟨S4x1024, .f32⟩
  | 57 => ⟨S4x1024, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S4x4096x3, .f32⟩
  | 66 => ⟨S_, .f32⟩
  | 67 => ⟨S4x4096, .f32⟩
  | 68 => ⟨S4x4096x3, .f32⟩
  | 69 => ⟨S_, .f32⟩
  | 70 => ⟨S4x4096, .f32⟩
  | 71 => ⟨S4x4096x4096, .f32⟩
  | 72 => ⟨S4x4096x1, .f32⟩
  | 73 => ⟨S4x1x4096, .f32⟩
  | 74 => ⟨S4x4096x4096, .f32⟩
  | 75 => ⟨S4x4096x4096, .f32⟩
  | 76 => ⟨S4x4096x4096, .f32⟩
  | 77 => ⟨S_, .f32⟩
  | 78 => ⟨S4x4096x4096, .f32⟩
  | 79 => ⟨S4x4096x4096, .f32⟩
  | 80 => ⟨S4x4096x4096, .f32⟩
  | 81 => ⟨S_, .f32⟩
  | 82 => ⟨S4x4096x4096, .f32⟩
  | 83 => ⟨S4x4096x4096, .f32⟩
  | 84 => ⟨S_, .f32⟩
  | 85 => ⟨S4x4096, .f32⟩
  | 86 => ⟨S4x4096x3, .f32⟩
  | 87 => ⟨S_, .f32⟩
  | 88 => ⟨S4x4096, .f32⟩
  | 89 => ⟨S4x4096x3, .f32⟩
  | 90 => ⟨S_, .f32⟩
  | 91 => ⟨S4x4096, .f32⟩
  | 92 => ⟨S4x4096x4096, .f32⟩
  | 93 => ⟨S4x4096x1, .f32⟩
  | 94 => ⟨S4x1x4096, .f32⟩
  | 95 => ⟨S4x4096x4096, .f32⟩
  | 96 => ⟨S4x4096x4096, .f32⟩
  | 97 => ⟨S4x4096x4096, .f32⟩
  | 98 => ⟨S_, .f32⟩
  | 99 => ⟨S4x4096x4096, .f32⟩
  | 100 => ⟨S4x4096x4096, .f32⟩
  | 101 => ⟨S4x4096x4096, .f32⟩
  | 102 => ⟨S_, .f32⟩
  | 103 => ⟨S4x4096x4096, .f32⟩
  | 104 => ⟨S4x4096x4096, .f32⟩
  | 105 => ⟨S_, .f32⟩
  | 106 => ⟨S4x4096, .f32⟩
  | 107 => ⟨S_, .f32⟩
  | 108 => ⟨S4x4096, .f32⟩
  | 109 => ⟨S4x4096, .f32⟩
  | 110 => ⟨S4x4096, .f32⟩
  | 111 => ⟨S_, .f32⟩
  | 112 => ⟨S_, .f32⟩
  | 113 => ⟨S_, .f32⟩
  | 114 => ⟨S_, .f32⟩
  | 115 => ⟨S_, .f32⟩
  | 116 => ⟨S4x4096, .f32⟩
  | 117 => ⟨S4x4096, .f32⟩
  | 118 => ⟨S4x4096, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x1024x3, .f32⟩

abbrev hbmTy0_1 (i : Nat) : BufTy := match i % 128 with
  | 0 => ⟨S1x1, .f32⟩
  | _ => ⟨S4x1024x3, .f32⟩

abbrev hbmTy (i : Nat) : BufTy := match i / 128 with
  | 0 => hbmTy0_0 i
  | 1 => hbmTy0_1 i
  | _ => ⟨S4x1024x3, .f32⟩

abbrev bufTy : (tb : Table) → Fin (tcTables nBuf tb) → BufTy
  | .hbm, ⟨i, _⟩ => hbmTy i
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_cst_14 : Ref sig .tc := ⟨.hbm, 60, rfl⟩
abbrev main_v41 : Ref sig .tc := ⟨.hbm, 61, rfl⟩
abbrev main_cst_15 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_16 : Ref sig .tc := ⟨.hbm, 66, rfl⟩
abbrev main_v45 : Ref sig .tc := ⟨.hbm, 67, rfl⟩
abbrev main_v46 : Ref sig .tc := ⟨.hbm, 68, rfl⟩
abbrev main_cst_17 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_19 : Ref sig .tc := ⟨.hbm, 81, rfl⟩
abbrev main_v57 : Ref sig .tc := ⟨.hbm, 82, rfl⟩
abbrev main_v58 : Ref sig .tc := ⟨.hbm, 83, rfl⟩
abbrev main_cst_20 : Ref sig .tc := ⟨.hbm, 84, rfl⟩
abbrev main_v59 : Ref sig .tc := ⟨.hbm, 85, rfl⟩
abbrev main_v60 : Ref sig .tc := ⟨.hbm, 86, rfl⟩
abbrev main_cst_21 : Ref sig .tc := ⟨.hbm, 87, rfl⟩
abbrev main_v61 : Ref sig .tc := ⟨.hbm, 88, rfl⟩
abbrev main_v62 : Ref sig .tc := ⟨.hbm, 89, rfl⟩
abbrev main_cst_22 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_23 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_24 : Ref sig .tc := ⟨.hbm, 102, rfl⟩
abbrev main_v73 : Ref sig .tc := ⟨.hbm, 103, rfl⟩
abbrev main_v74 : Ref sig .tc := ⟨.hbm, 104, rfl⟩
abbrev main_cst_25 : Ref sig .tc := ⟨.hbm, 105, rfl⟩
abbrev main_v75 : Ref sig .tc := ⟨.hbm, 106, rfl⟩
abbrev main_cst_26 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_27 : Ref sig .tc := ⟨.hbm, 111, rfl⟩
abbrev main_v79 : Ref sig .tc := ⟨.hbm, 112, rfl⟩
abbrev main_cst_28 : Ref sig .tc := ⟨.hbm, 113, rfl⟩
abbrev main_v80 : Ref sig .tc := ⟨.hbm, 114, rfl⟩
abbrev main_cst_29 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_30 : Ref sig .tc := ⟨.hbm, 119, rfl⟩
abbrev main_v84 : Ref sig .tc := ⟨.hbm, 120, rfl⟩
abbrev main_cst_31 : Ref sig .tc := ⟨.hbm, 121, rfl⟩
abbrev main_v85 : Ref sig .tc := ⟨.hbm, 122, rfl⟩
abbrev main_cst_32 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩

abbrev nD : Nat := 1
abbrev τ : Topo := Topo.v7x

variable {F : FTy → Type} [FloatOps F]
-- ==== Proof.Scalars.lean ====
/- The real mathematics of the Chamfer distance, with no program in it: the score of two points, the squared distance
   of two points, and how a largest score gives a smallest squared distance. -/
module

public import Idealize.ShloMosaic.PureOps.Ideal
public import Idealize.ShloMosaic.PureOps.Ideal.Laws
public import Idealize.ShloMosaic.Lib.IdealHost
public import Mathlib.Data.EReal.Operations
public import Mathlib.Data.EReal.Inv
public import Mathlib.Algebra.BigOperators.Fin
public import Mathlib.Data.Fintype.Lattice
public import Mathlib.Tactic.Ring
public import Mathlib.Tactic.NormNum

@[expose] public section

noncomputable section

namespace Cert.Chamfer

open Idealize.ShloMosaic

/-- A point: its three coordinates, as extended reals. -/
abbrev Point := Fin 3 → EReal

/-- Every coordinate of the point is a real number. -/
def Finite (x : Point) : Prop := ∃ r : Fin 3 → ℝ, ∀ k, x k = (r k : EReal)

/-! ## The literals -/

/-- The literal `-2.0`. -/
def negTwo : EReal := Ideal.ofBits .f32 0xC0000000#32
/-- The literal `-0.5`. -/
def negHalf : EReal := Ideal.ofBits .f32 0xBF000000#32
/-- The literal `2.0`. -/
def two : EReal := Ideal.ofBits .f32 0x40000000#32
/-- The literal `1e-12` that is added under the square root. -/
def eps : EReal := Ideal.ofBits .f32 0x2B8CBCCC#32
/-- The literal `0.1` that weights the second term. -/
def tenth : EReal := Ideal.ofBits .f32 0x3DCCCCCD#32
/-- The literal `4096.0`. -/
def n4096 : EReal := Ideal.ofBits .f32 0x45800000#32
/-- The literal `16384.0`. -/
def n16384 : EReal := Ideal.ofBits .f32 0x46800000#32

/-- `-2.0` denotes the real -2. -/
theorem negTwo_eq : negTwo = ((-2 : ℝ) : EReal) := by
  simp [negTwo, Ideal.ofBits, Ideal.ieee, -EReal.coe_mul, -EReal.coe_neg]; norm_num

/-- `-0.5` denotes the real -1/2. -/
theorem negHalf_eq : negHalf = ((-(1 / 2) : ℝ) : EReal) := by
  simp [negHalf, Ideal.ofBits, Ideal.ieee, -EReal.coe_mul, -EReal.coe_neg]; norm_num

/-- `2.0` denotes the real 2. -/
theorem two_eq : two = ((2 : ℝ) : EReal) := by
  simp [two, Ideal.ofBits, Ideal.ieee, -EReal.coe_mul, -EReal.coe_neg]; norm_num

/-- `4096.0` denotes the real 4096. -/
theorem n4096_eq : n4096 = ((4096 : ℝ) : EReal) := by
  simp [n4096, Ideal.ofBits, Ideal.ieee, -EReal.coe_mul, -EReal.coe_neg]; norm_num

/-- `16384.0` denotes the real 16384. -/
theorem n16384_eq : n16384 = ((16384 : ℝ) : EReal) := by
  simp [n16384, Ideal.ofBits, Ideal.ieee, -EReal.coe_mul, -EReal.coe_neg]; norm_num

/-- The pattern of plus infinity denotes the top element. -/
theorem posInf_eq : Ideal.ofBits .f32 0x7F800000#32 = ⊤ := by
  simp [Ideal.ofBits, Ideal.ieee]

/-- The pattern of minus infinity denotes the bottom element. -/
theorem negInf_eq : Ideal.ofBits .f32 0xFF800000#32 = ⊥ := by
  simp [Ideal.ofBits, Ideal.ieee]

/-! ## Score and squared distance -/

/-- The sum of the squared coordinates. -/
def sq (x : Point) : EReal := ∑ k, x k * x k

/-- The product of two points, coordinate by coordinate, summed. -/
def dot (x y : Point) : EReal := ∑ k, x k * y k

/-- What the two augmented rows of `x` and `y` contract to: the product of the points, then each point's halved square
    split into a high and a low part against ones, then a zero column. -/
def score (x y : Point) : EReal :=
  dot x y + negHalf * sq x * 1 + (negHalf * sq x - negHalf * sq x) * 1 + 1 * (negHalf * sq y)
    + 1 * (negHalf * sq y - negHalf * sq y) + 0 * 0

/-- The augmented row of a left point: its coordinates, its halved square in two parts, two ones and a zero. -/
def augLeft (x : Point) : Fin 8 → EReal :=
  ![x 0, x 1, x 2, negHalf * sq x, negHalf * sq x - negHalf * sq x, 1, 1, 0]

/-- The augmented row of a right point: its coordinates, two ones, its halved square in two parts and a zero. -/
def augRight (y : Point) : Fin 8 → EReal :=
  ![y 0, y 1, y 2, 1, 1, negHalf * sq y, negHalf * sq y - negHalf * sq y, 0]

/-- Two augmented rows contract to the score of their points. -/
theorem sum_aug (x y : Point) : ∑ k, augLeft x k * augRight y k = score x y := by
  rw [Fin.sum_univ_eight]
  unfold score dot
  rw [Fin.sum_univ_three]
  rfl

/-- The squared distance of two points, expanded and clamped at zero. -/
def dist2 (x y : Point) : EReal := max (sq x + sq y - two * dot x y) 0

/-- The clamped multiple `max (-2 t) 0` by which a score becomes a squared distance. -/
def ofScore (t : EReal) : EReal := max (negTwo * t) 0

/-- A squared distance does not depend on the order of its points. -/
theorem dist2_comm (x y : Point) : dist2 x y = dist2 y x := by
  unfold dist2 dot
  rw [add_comm (sq x), Finset.sum_congr rfl fun k _ => mul_comm (x k) (y k)]

/-- The sum of squares of a finite point is the real one. -/
theorem sq_coe (r : Fin 3 → ℝ) (x : Point) (h : ∀ k, x k = (r k : EReal)) :
    sq x = ((∑ k, r k * r k : ℝ) : EReal) := by
  unfold sq
  rw [Fin.sum_univ_three, Fin.sum_univ_three, h, h, h]
  push_cast
  rfl

/-- The product of finite points is the real one. -/
theorem dot_coe (r s : Fin 3 → ℝ) (x y : Point) (h : ∀ k, x k = (r k : EReal)) (g : ∀ k, y k = (s k : EReal)) :
    dot x y = ((∑ k, r k * s k : ℝ) : EReal) := by
  unfold dot
  rw [Fin.sum_univ_three, Fin.sum_univ_three, h, h, h, g, g, g]
  push_cast
  rfl

/-- For finite points, the score taken to a squared distance is the squared distance. -/
theorem ofScore_score {x y : Point} (hx : Finite x) (hy : Finite y) : ofScore (score x y) = dist2 x y := by
  obtain ⟨r, hr⟩ := hx
  obtain ⟨s, hs⟩ := hy
  unfold ofScore score dist2
  rw [sq_coe r x hr, sq_coe s y hs, dot_coe r s x y hr hs, negTwo_eq, negHalf_eq, two_eq]
  generalize (∑ k, r k * r k) = A
  generalize (∑ k, s k * s k) = B
  generalize (∑ k, r k * s k) = D
  congr 1
  rw [mul_zero, one_mul, one_mul, mul_one, mul_one, add_zero]
  simp only [← EReal.coe_mul, ← EReal.coe_add, ← EReal.coe_sub]
  congr 1
  ring

/-- Taking scores to squared distances turns the larger of two scores into the smaller of two squares. -/
theorem ofScore_max (a b : EReal) : ofScore (max a b) = min (ofScore a) (ofScore b) := by
  have anti : Antitone ofScore := by
    intro u v huv
    unfold ofScore
    refine max_le_max ?_ le_rfl
    rw [negTwo_eq, EReal.coe_neg, EReal.neg_mul, EReal.neg_mul, EReal.neg_le_neg_iff]
    exact mul_le_mul_of_nonneg_left huv (by norm_num)
  exact anti.map_max

/-- No score at all is taken to an infinite squared distance. -/
theorem ofScore_bot : ofScore ⊥ = ⊤ := by
  unfold ofScore
  rw [negTwo_eq, EReal.coe_mul_bot_of_neg (by norm_num)]
  exact max_eq_left le_top

/-- The least squared distance from a point to the points of a family. -/
def nearest {ι : Type} [Fintype ι] (y : Point) (X : ι → Point) : EReal :=
  Finset.univ.fold min ⊤ fun i => dist2 y (X i)

/-- The largest score of a finite point against a family of finite points is taken to the least squared distance. -/
theorem ofScore_fold {ι : Type} [Fintype ι] {y : Point} {X : ι → Point} (hy : Finite y) (hX : ∀ i, Finite (X i)) :
    ofScore (Finset.univ.fold max ⊥ fun i => score y (X i)) = nearest y X := by
  unfold nearest
  rw [← ofScore_bot, ← Finset.fold_hom (m := ofScore) ofScore_max]
  exact Finset.fold_congr fun i _ => ofScore_score hy (hX i)

/-- The same with the point on the right of every score. -/
theorem ofScore_fold_right {ι : Type} [Fintype ι] {y : Point} {X : ι → Point} (hy : Finite y) (hX : ∀ i, Finite (X i)) :
    ofScore (Finset.univ.fold max ⊥ fun i => score (X i) y) = nearest y X := by
  unfold nearest
  rw [← ofScore_bot, ← Finset.fold_hom (m := ofScore) ofScore_max]
  exact Finset.fold_congr fun i _ => (ofScore_score (hX i) hy).trans (dist2_comm _ _)

/-- The distance of a point to a family: the root of the least squared distance, a small number added under it. -/
def rootNearest {ι : Type} [Fintype ι] (y : Point) (X : ι → Point) : EReal := Ideal.sqrt (nearest y X + eps)

/-! ## Four tiles of 1024 -/

/-- Row `n` of tile `q`, among 4096 rows. -/
def tileRow (q : Fin 4) (n : Fin 1024) : Fin 4096 := ⟨1024 * q.val + n.val, by omega⟩

/-- The rows of the four tiles are the 4096 rows. -/
def tileEquiv : Fin 4 × Fin 1024 ≃ Fin 4096 where
  toFun p := tileRow p.1 p.2
  invFun i := (⟨i.val / 1024, by omega⟩, ⟨i.val % 1024, by omega⟩)
  left_inv p := by
    obtain ⟨q, n⟩ := p
    simp only [tileRow, Prod.mk.injEq, Fin.ext_iff]
    omega
  right_inv i := by
    simp only [tileRow, Fin.ext_iff]
    omega

/-- A sum over the 4096 rows is the sum over the four tiles of the tiles' sums. -/
theorem sum_tiles (f : Fin 4096 → EReal) :
    (∑ i, f i) = ∑ n, f (tileRow 0 n) + ∑ n, f (tileRow 1 n) + ∑ n, f (tileRow 2 n) + ∑ n, f (tileRow 3 n) := by
  rw [← Equiv.sum_comp tileEquiv f, Fintype.sum_prod_type, Fin.sum_univ_four]
  rfl

/-- The fold of the greater from the bottom is the supremum. -/
theorem fold_max_eq_iSup {ι : Type} [Fintype ι] (f : ι → EReal) : Finset.univ.fold max ⊥ f = ⨆ i, f i :=
  Finset.sup_univ_eq_iSup f

/-- The largest over the 4096 rows is the largest of the four tiles' largest. -/
theorem fold_tiles (f : Fin 4096 → EReal) :
    max (max (max (Finset.univ.fold max ⊥ fun n => f (tileRow 0 n)) (Finset.univ.fold max ⊥ fun n => f (tileRow 1 n)))
      (Finset.univ.fold max ⊥ fun n => f (tileRow 2 n))) (Finset.univ.fold max ⊥ fun n => f (tileRow 3 n))
    = Finset.univ.fold max ⊥ f := by
  simp only [fold_max_eq_iSup]
  rw [← Equiv.iSup_comp (g := f) tileEquiv, iSup_prod]
  apply le_antisymm
  · refine max_le (max_le (max_le ?_ ?_) ?_) ?_
    · exact le_iSup (fun q : Fin 4 => ⨆ n : Fin 1024, f (tileEquiv (q, n))) 0
    · exact le_iSup (fun q : Fin 4 => ⨆ n : Fin 1024, f (tileEquiv (q, n))) 1
    · exact le_iSup (fun q : Fin 4 => ⨆ n : Fin 1024, f (tileEquiv (q, n))) 2
    · exact le_iSup (fun q : Fin 4 => ⨆ n : Fin 1024, f (tileEquiv (q, n))) 3
  · refine iSup_le fun q => ?_
    match q with
    | 0 => exact le_max_of_le_left (le_max_of_le_left (le_max_left _ _))
    | 1 => exact le_max_of_le_left (le_max_of_le_left (le_max_right _ _))
    | 2 => exact le_max_of_le_left (le_max_right _ _)
    | 3 => exact le_max_right _ _

/-! ## The mean's quotient -/

/-- A tenth of a number, divided, is a tenth of the quotient: the divisor is a positive real. -/
theorem tenth_div (a : EReal) (d : ℝ) (hd : 0 < d) :
    Ideal.div (tenth * a) (d : EReal) = Ideal.div a (d : EReal) * tenth := by
  have h : (d : EReal) ≠ 0 := by exact_mod_cast hd.ne'
  unfold Ideal.div
  rw [if_neg h, if_neg h, mul_assoc, mul_comm]

end Cert.Chamfer

end
-- ==== Proof.BlockOps.lean ====
/- The vector idioms of the kernel's body, each read at an index: the contraction of two augmented matrices, a row's and a
   column's largest entry, the root of a clamped multiple, and the sums of such roots. -/
module

public import proofs.«01_k».proof.Proof.Scalars
public import proofs.«01_k».proof.Proof.Gen.KernelIdeal.Skeleton
public import Idealize.ShloMosaic.Lib.Pointwise

@[expose] public section

set_option maxRecDepth 16384

noncomputable section

namespace Cert.Chamfer

open Idealize.ShloMosaic Cert.KernelIdeal Cert.KernelIdeal.Gen

/-- The points of a block of 1024. -/
def ptC (x : Vec Ideal S1x1024x3 .f32) (n : Fin 1024) : Point := fun k => x (ix3 0 n k)

/-- The points of a block of 4096. -/
def ptF (x : Vec Ideal S1x4096x3 .f32) (n : Fin 4096) : Point := fun k => x (ix3 0 n k)

/-! ## The augmented rows -/

/-- Row `n` of the coarse block's augmented matrix is the augmented row of its point `n`. -/
theorem pay5_apply (x : Vec Ideal S1x1024x3 .f32) (n : Fin 1024) (k : Fin 8) :
    k0_pay5 x (ix2 n k) = augLeft (ptC x n) k := by
  pointwise [k0_pay5]
  fin_cases k <;> rfl

/-- Row `m` of the target block's augmented matrix is the augmented row of its point `m`, for the right side. -/
theorem pay4_apply (x : Vec Ideal S1x4096x3 .f32) (m : Fin 4096) (k : Fin 8) :
    k0_pay4 x (ix2 m k) = augRight (ptF x m) k := by
  pointwise [k0_pay4]
  fin_cases k <;> rfl

/-- Row `n` of the fine block's augmented matrix is the augmented row of its point `n`. -/
theorem pay9_apply (x : Vec Ideal S1x4096x3 .f32) (n : Fin 4096) (k : Fin 8) :
    k0_pay9 (k0_pay7 x) (k0_pay8 x) (ix2 n k) = augLeft (ptF x n) k := by
  pointwise [k0_pay9, k0_pay8, k0_pay7, k0_pay6]
  fin_cases k <;> rfl

/-! ## The contraction of a tile -/

/-- A tile's contraction with the target, entry by entry: the rows' products summed over the eight columns. -/
theorem pay11_apply (b : FVec Ideal S4096x8 .bf16) (a : FVec Ideal S1024x8 .bf16) (n : Fin 1024) (m : Fin 4096) :
    k0_pay11 b a (ix2 n m) = ∑ k : Fin 8, a (ix2 n k) * b (ix2 m k) := by
  pointwise [k0_pay11]

/-- Every entry of the matrix is the score of a left point and a right point. -/
def IsScores (e : FVec Ideal S1024x4096 .f32) (X : Fin 1024 → Point) (Y : Fin 4096 → Point) : Prop :=
  ∀ n m, e (ix2 n m) = score (X n) (Y m)

/-- Contracting augmented rows gives the matrix of scores. -/
theorem isScores_pay11 {b : FVec Ideal S4096x8 .bf16} {a : FVec Ideal S1024x8 .bf16} {X : Fin 1024 → Point}
    {Y : Fin 4096 → Point} (ha : ∀ n k, a (ix2 n k) = augLeft (X n) k) (hb : ∀ m k, b (ix2 m k) = augRight (Y m) k) :
    IsScores (k0_pay11 b a) X Y := fun n m => by
  rw [pay11_apply, ← sum_aug]
  exact Finset.sum_congr rfl fun k _ => by rw [ha, hb]

/-- The first 1024 rows of an augmented matrix. -/
theorem slice0 (v : FVec Ideal S4096x8 .bf16) (n : Fin 1024) (k : Fin 8) :
    extractStridedSlice S1024x8 ![0, 0] v slices_S4096x8_o0_0_S1024x8 (ix2 n k) = v (ix2 (tileRow 0 n) k) := by
  pointwise
  congr 2
  exact Fin.ext (by simp [tileRow])

/-- The second 1024 rows. -/
theorem slice1 (v : FVec Ideal S4096x8 .bf16) (n : Fin 1024) (k : Fin 8) :
    extractStridedSlice S1024x8 ![1024, 0] v slices_S4096x8_o1024_0_S1024x8 (ix2 n k) = v (ix2 (tileRow 1 n) k) := by
  pointwise
  rfl

/-- The third 1024 rows. -/
theorem slice2 (v : FVec Ideal S4096x8 .bf16) (n : Fin 1024) (k : Fin 8) :
    extractStridedSlice S1024x8 ![2048, 0] v slices_S4096x8_o2048_0_S1024x8 (ix2 n k) = v (ix2 (tileRow 2 n) k) := by
  pointwise
  rfl

/-- The fourth 1024 rows. -/
theorem slice3 (v : FVec Ideal S4096x8 .bf16) (n : Fin 1024) (k : Fin 8) :
    extractStridedSlice S1024x8 ![3072, 0] v slices_S4096x8_o3072_0_S1024x8 (ix2 n k) = v (ix2 (tileRow 3 n) k) := by
  pointwise
  rfl

/-! ## Rows -/

/-- Each row's largest entry. -/
def rowMax (e : FVec Ideal S1024x4096 .f32) : FVec Ideal S1024 .f32 :=
  multiReduction .maximumf [1] S1024 e 0xFF800000#32 reduces_S1024x4096_S1024 (.inl rfl) rfl

/-- A row's largest entry is the fold of the greater over the row. -/
theorem rowMax_apply (e : FVec Ideal S1024x4096 .f32) (n : Fin 1024) :
    rowMax e (ix1 n) = Finset.univ.fold max ⊥ fun m => e (ix2 n m) := by
  pointwise [rowMax]
  rw [negInf_eq]

/-- The column of roots of the clamped multiples of a column. -/
def rootCol (v : FVec Ideal S1024 .f32) : FVec Ideal S1x1024x1 .f32 :=
  shapeCast S1x1024x1 (sqrt (addf (maximumf (mulf (broadcast S1024x1 (Scalar.ofBits .f32 0xC0000000#32))
    (shapeCast S1024x1 v shapeCasts_S1024_S1024x1)) (broadcast S1024x1 (Scalar.ofBits .f32 0x00000000#32)))
    (broadcast S1024x1 (Scalar.ofBits .f32 0x2B8CBCCC#32)))) shapeCasts_S1024x1_S1x1024x1

/-- An entry of the column of roots. -/
theorem rootCol_apply (v : FVec Ideal S1024 .f32) (n : Fin 1024) :
    rootCol v (ix3 0 n 0) = Ideal.sqrt (ofScore (v (ix1 n)) + eps) := by
  pointwise [rootCol]
  rfl

/-- The sum of a column's entries, as one number. -/
def sumCol (v : FVec Ideal S1x1024x1 .f32) : Ideal .f32 :=
  extractAt ![0, 0, 0] (shapeCast S1x1x1 (multiReduction .add [1, 2] S1 v 0x00000000#32 reduces_S1x1024x1_S1 (.inl rfl) rfl)
    shapeCasts_S1_S1x1x1) inpos_S1x1x1_p0_0_0

/-- That sum is the sum over the 1024 entries. -/
theorem sumCol_eq (v : FVec Ideal S1x1024x1 .f32) : sumCol v = ∑ n : Fin 1024, v (ix3 0 n 0) := by
  pointwise [sumCol]
  exact Finset.sum_congr rfl fun n _ => Fin.sum_univ_one _

/-- A tile's contribution to the row sum: for every left point, its distance to the right points. -/
theorem rowSum_eq {e : FVec Ideal S1024x4096 .f32} {X : Fin 1024 → Point} {Y : Fin 4096 → Point}
    (h : IsScores e X Y) (hX : ∀ n, Finite (X n)) (hY : ∀ m, Finite (Y m)) :
    sumCol (rootCol (rowMax e)) = ∑ n, rootNearest (X n) Y := by
  rw [sumCol_eq]
  refine Finset.sum_congr rfl fun n _ => ?_
  rw [rootCol_apply, rowMax_apply, Finset.fold_congr (g := fun m => score (X n) (Y m)) fun m _ => h n m,
    ofScore_fold (hX n) hY]
  rfl

/-! ## Columns -/

/-- Each column's largest entry. -/
def colMax (e : FVec Ideal S1024x4096 .f32) : FVec Ideal S4096 .f32 :=
  multiReduction .maximumf [0] S4096 e 0xFF800000#32 reduces_S1024x4096_S4096 (.inl rfl) rfl

/-- A column's largest entry is the fold of the greater over the column. -/
theorem colMax_apply (e : FVec Ideal S1024x4096 .f32) (m : Fin 4096) :
    colMax e (ix1 m) = Finset.univ.fold max ⊥ fun n => e (ix2 n m) := by
  pointwise [colMax]
  rw [negInf_eq]

/-- A running column maximum taken one vector further. -/
def colStep (c : FVec Ideal S1x4096 .f32) (v : FVec Ideal S4096 .f32) : FVec Ideal S1x4096 .f32 :=
  maximumf c (shapeCast S1x4096 v shapeCasts_S4096_S1x4096)

/-- An entry of the running column maximum. -/
theorem colStep_apply (c : FVec Ideal S1x4096 .f32) (v : FVec Ideal S4096 .f32) (m : Fin 4096) :
    colStep c v (ix2 0 m) = max (c (ix2 0 m)) (v (ix1 m)) := by
  pointwise [colStep]

/-- The named literal that starts a column maximum is the bottom element, at every entry. -/
theorem pay10_apply (m : Fin 4096) : (k0_pay10 (F := Ideal)) (ix2 0 m) = ⊥ :=
  IdealRules.named_const.ideal_named_scalar _ _ _ _ rfl

/-- A clamped column maximum, entry by entry. -/
theorem pay24_apply (c : FVec Ideal S1x4096 .f32) (m : Fin 4096) : k0_pay24 c (ix2 0 m) = ofScore (c (ix2 0 m)) := by
  pointwise [k0_pay24]
  rfl

/-- The sum of the roots along a row of squared distances, added to what was there. -/
theorem pay1_eq (d : FVec Ideal S1x4096 .f32) (a : Elt Ideal .f32) :
    k0_pay1 d a (Scalar.ofBits .f32 0x2B8CBCCC#32) = a + ∑ m : Fin 4096, Ideal.sqrt (d (ix2 0 m) + eps) := by
  pointwise [k0_pay1]
  rw [Fin.sum_univ_one]
  rfl

end Cert.Chamfer

end
-- ==== Proof.Block.lean ====
/- What one grid point adds to the four running sums: for every point of one family, its distance to another family. -/
module

public import proofs.«01_k».proof.Proof.BlockOps

@[expose] public section

set_option maxRecDepth 16384

noncomputable section

namespace Cert.Chamfer

open Idealize.ShloMosaic Cert.KernelIdeal Cert.KernelIdeal.Gen

/-- Every point of the block of 1024 has real coordinates. -/
def FiniteC (x : Vec Ideal S1x1024x3 .f32) : Prop := ∀ n, Finite (ptC x n)

/-- Every point of the block of 4096 has real coordinates. -/
def FiniteF (x : Vec Ideal S1x4096x3 .f32) : Prop := ∀ n, Finite (ptF x n)

/-- The sum, over a family's points, of each point's distance to another family. -/
def total {ι κ : Type} [Fintype ι] [Fintype κ] (X : ι → Point) (Y : κ → Point) : EReal := ∑ n, rootNearest (X n) Y

/-- The points of tile `q` of a block of 4096. -/
abbrev tilePt (f : Vec Ideal S1x4096x3 .f32) (q : Fin 4) (n : Fin 1024) : Point := ptF f (tileRow q n)

variable (c : Vec Ideal S1x1024x3 .f32) (f g : Vec Ideal S1x4096x3 .f32)

/-! ## The five score matrices -/

/-- The coarse tile's matrix holds the scores of the coarse points against the target points. -/
theorem scores_coarse : IsScores (k0_pay11 (k0_pay4 g) (k0_pay5 c)) (ptC c) (ptF g) :=
  isScores_pay11 (pay5_apply c) (pay4_apply g)

/-- The first fine tile's matrix holds its scores. -/
theorem scores0 : IsScores (k0_pay14 (k0_pay4 g) (k0_pay7 f) (k0_pay8 f)) (tilePt f 0) (ptF g) :=
  isScores_pay11 (fun n k => (slice0 _ n k).trans (pay9_apply f _ k)) (pay4_apply g)

/-- The second fine tile's matrix holds its scores. -/
theorem scores1 : IsScores (k0_pay16 (k0_pay4 g) (k0_pay9 (k0_pay7 f) (k0_pay8 f))) (tilePt f 1) (ptF g) :=
  isScores_pay11 (fun n k => (slice1 _ n k).trans (pay9_apply f _ k)) (pay4_apply g)

/-- The third fine tile's matrix holds its scores. -/
theorem scores2 : IsScores (k0_pay18 (k0_pay4 g) (k0_pay9 (k0_pay7 f) (k0_pay8 f))) (tilePt f 2) (ptF g) :=
  isScores_pay11 (fun n k => (slice2 _ n k).trans (pay9_apply f _ k)) (pay4_apply g)

/-- The fourth fine tile's matrix holds its scores. -/
theorem scores3 : IsScores (k0_pay21 (k0_pay4 g) (k0_pay9 (k0_pay7 f) (k0_pay8 f))) (tilePt f 3) (ptF g) :=
  isScores_pay11 (fun n k => (slice3 _ n k).trans (pay9_apply f _ k)) (pay4_apply g)

variable {c f g}

/-- The kernel's scalar sum is the sum of extended reals. -/
theorem scalar_addf (x y : Ideal .f32) : Scalar.addf x y = (x + y : EReal) := rfl

/-- The kernel's scalar zero is zero. -/
theorem scalar_zero : (Scalar.ofBits .f32 0x00000000#32 : Ideal .f32) = (0 : EReal) := Ideal.ofBits_zero_f32

/-! ## The four addends -/

/-- First sum: the coarse points' distances to the target. -/
theorem add0 (hc : FiniteC c) (hg : FiniteF g) (a : Elt Ideal .f32) :
    k0_pay22 (k0_pay12 (k0_pay4 g) (k0_pay5 c)) a = a + total (ptC c) (ptF g) := by
  have h : k0_pay22 (k0_pay12 (k0_pay4 g) (k0_pay5 c)) a = Scalar.addf a (Scalar.addf (Scalar.ofBits .f32 0x00000000#32)
      (sumCol (rootCol (rowMax (k0_pay11 (k0_pay4 g) (k0_pay5 c)))))) := rfl
  rw [h, rowSum_eq (scores_coarse c g) hc hg, scalar_addf, scalar_addf, scalar_zero, zero_add, total]

/-- Second sum: the fine points' distances to the target, tile after tile. -/
theorem add1 (hf : FiniteF f) (hg : FiniteF g) (a : Elt Ideal .f32) :
    k0_pay23 (k0_pay4 g) (k0_pay9 (k0_pay7 f) (k0_pay8 f))
      (k0_pay19 (k0_pay4 g) (k0_pay9 (k0_pay7 f) (k0_pay8 f)) (k0_pay15 (k0_pay4 g) (k0_pay7 f) (k0_pay8 f))) a
    = a + total (ptF f) (ptF g) := by
  have h : k0_pay23 (k0_pay4 g) (k0_pay9 (k0_pay7 f) (k0_pay8 f))
      (k0_pay19 (k0_pay4 g) (k0_pay9 (k0_pay7 f) (k0_pay8 f)) (k0_pay15 (k0_pay4 g) (k0_pay7 f) (k0_pay8 f))) a
      = Scalar.addf a (Scalar.addf (Scalar.addf (Scalar.addf (Scalar.addf (Scalar.ofBits .f32 0x00000000#32)
          (sumCol (rootCol (rowMax (k0_pay14 (k0_pay4 g) (k0_pay7 f) (k0_pay8 f))))))
          (sumCol (rootCol (rowMax (k0_pay16 (k0_pay4 g) (k0_pay9 (k0_pay7 f) (k0_pay8 f)))))))
          (sumCol (rootCol (rowMax (k0_pay18 (k0_pay4 g) (k0_pay9 (k0_pay7 f) (k0_pay8 f)))))))
          (sumCol (rootCol (rowMax (k0_pay21 (k0_pay4 g) (k0_pay9 (k0_pay7 f) (k0_pay8 f))))))) := rfl
  rw [h, rowSum_eq (scores0 f g) (fun n => hf _) hg, rowSum_eq (scores1 f g) (fun n => hf _) hg,
    rowSum_eq (scores2 f g) (fun n => hf _) hg, rowSum_eq (scores3 f g) (fun n => hf _) hg,
    scalar_addf, scalar_addf, scalar_addf, scalar_addf, scalar_addf, scalar_zero, zero_add, total, sum_tiles]

/-- A row of clamped column maxima, summed root by root, is the sum of the target points' distances to the family whose
    scores the maxima are of. -/
theorem colSum_eq {ι : Type} [Fintype ι] {X : ι → Point} {d : FVec Ideal S1x4096 .f32} (hX : ∀ i, Finite (X i))
    (hg : FiniteF g)
    (h : ∀ m, d (ix2 0 m) = ofScore (Finset.univ.fold max ⊥ fun i => score (X i) (ptF g m))) (a : Elt Ideal .f32) :
    k0_pay1 d a (Scalar.ofBits .f32 0x2B8CBCCC#32) = a + total (ptF g) X := by
  rw [pay1_eq]
  refine congrArg (fun s : EReal => a + s) (Finset.sum_congr rfl fun m _ => ?_)
  rw [h, ofScore_fold_right (hg m) hX]
  rfl

/-- Third sum: the target points' distances to the coarse points. -/
theorem add2 (hc : FiniteC c) (hg : FiniteF g) (a : Elt Ideal .f32) :
    k0_pay1 (k0_pay24 (k0_pay13 (k0_pay4 g) (k0_pay5 c))) a (Scalar.ofBits .f32 0x2B8CBCCC#32)
    = a + total (ptF g) (ptC c) := by
  refine colSum_eq hc hg (fun m => ?_) a
  rw [pay24_apply]
  refine congrArg ofScore ?_
  have h : k0_pay13 (k0_pay4 g) (k0_pay5 c)
      = colStep (k0_pay10 (F := Ideal)) (colMax (k0_pay11 (k0_pay4 g) (k0_pay5 c))) := rfl
  rw [h, colStep_apply, pay10_apply, colMax_apply, max_eq_right bot_le]
  exact Finset.fold_congr fun n _ => scores_coarse c g n m

/-- Fourth sum: the target points' distances to the fine points, whose column maxima run over the four tiles. -/
theorem add3 (hf : FiniteF f) (hg : FiniteF g) (a : Elt Ideal .f32) :
    k0_pay2 (k0_pay25 (k0_pay4 g) (k0_pay9 (k0_pay7 f) (k0_pay8 f))
      (k0_pay17 (k0_pay4 g) (k0_pay9 (k0_pay7 f) (k0_pay8 f)) (k0_pay10 (F := Ideal))
        (k0_pay14 (k0_pay4 g) (k0_pay7 f) (k0_pay8 f)))
      (k0_pay20 (k0_pay4 g) (k0_pay9 (k0_pay7 f) (k0_pay8 f)))) a
    = a + total (ptF g) (ptF f) := by
  refine colSum_eq (d := k0_pay24 (colStep (colStep (colStep (colStep (k0_pay10 (F := Ideal))
    (colMax (k0_pay14 (k0_pay4 g) (k0_pay7 f) (k0_pay8 f))))
    (colMax (k0_pay16 (k0_pay4 g) (k0_pay9 (k0_pay7 f) (k0_pay8 f)))))
    (colMax (k0_pay18 (k0_pay4 g) (k0_pay9 (k0_pay7 f) (k0_pay8 f)))))
    (colMax (k0_pay21 (k0_pay4 g) (k0_pay9 (k0_pay7 f) (k0_pay8 f)))))) hf hg (fun m => ?_) a
  rw [pay24_apply]
  refine congrArg ofScore ?_
  rw [colStep_apply, colStep_apply, colStep_apply, colStep_apply, pay10_apply, colMax_apply, colMax_apply, colMax_apply,
    colMax_apply, max_eq_right bot_le,
    ← fold_tiles,
    Finset.fold_congr fun n _ => scores0 f g n m, Finset.fold_congr fun n _ => scores1 f g n m,
    Finset.fold_congr fun n _ => scores2 f g n m, Finset.fold_congr fun n _ => scores3 f g n m]

end Cert.Chamfer

end
-- ==== Proof.Clouds.lean ====
/- The loss as a function of the three arrays of points: what the kernel and the reference both compute. -/
module

public import proofs.«01_k».proof.Proof.Block

@[expose] public section

noncomputable section

namespace Cert.Chamfer

open Idealize.ShloMosaic Cert.KernelIdeal

/-- The loss made of the four sums and the weight. -/
def lossOf (s : Fin 4 → EReal) (alpha : EReal) : EReal :=
  Ideal.div (s 2) n16384 + Ideal.div (tenth * s 0) n4096 + alpha * (Ideal.div (s 3) n16384 + Ideal.div (tenth * s 1) n16384)

/-- Point `n` of batch `b` of an array of points. -/
def pts {N : ℕ} (x : Vec Ideal ⟨3, ![4, N, 3]⟩ .f32) (b : Fin 4) (n : Fin N) : Point := fun k => x (ix3 b n k)

/-- Every point of the array has real coordinates. -/
def FiniteA {N : ℕ} (x : Vec Ideal ⟨3, ![4, N, 3]⟩ .f32) : Prop := ∀ b n, Finite (pts x b n)

/-- The four totals of batch `b`. -/
def batch (x : Vec Ideal S4x1024x3 .f32) (y z : Vec Ideal S4x4096x3 .f32) (b : Fin 4) : Fin 4 → EReal :=
  ![total (pts x b) (pts z b), total (pts y b) (pts z b), total (pts z b) (pts x b), total (pts z b) (pts y b)]

/-- The loss: the four totals are summed over the batches and combined. -/
def loss (x : Vec Ideal S4x1024x3 .f32) (y z : Vec Ideal S4x4096x3 .f32) (alpha : EReal) : EReal :=
  lossOf (fun j => ∑ b, batch x y z b j) alpha

end Cert.Chamfer

end
-- ==== Proof.Step.lean ====
module
public import proofs.«01_k».proof.Proof.Clouds
public import proofs.«01_k».proof.Proof.Gen.KernelIdeal.Value
public import Idealize.ShloMosaic.Lib.Pipeline.ValueKit
public import Idealize.ShloMosaic.Lib.Pipeline.ReadBack

/-! # What one grid point leaves

The four running sums live in a row of four scalars. A grid point adds the four totals of its batch to them (the first
point starts from zero), and the last point also combines them into the loss. -/

@[expose] public section
set_option maxRecDepth 16384
noncomputable section
namespace Cert.Chamfer
open Cert.KernelIdeal Cert.KernelIdeal.Gen Idealize.ShloMosaic Idealize.ShloMosaic.TcCoe Idealize.SL.Sem

/-- The row of four scalars with the given entries. -/
def quad (v : Fin 4 → EReal) (y : S1x4.Idx) : EReal := v (y 1)

/-- Entry `j` of a row of four scalars. -/
def entry (xs : Vec Ideal S1x4 .f32) (j : Fin 4) : EReal := xs (ix2 0 j)

/-- Entry `j` of the row of `v` is `v j`. -/
theorem entry_quad (v : Fin 4 → EReal) (j : Fin 4) : entry (quad v) j = v j := rfl

/-- A scalar stored at position `j` is what is read there. -/
theorem canon_hit (j : ℕ) (inb) (v : Ideal .f32) (L : List (View.Piece (Elt Ideal) S1x4 .f32)) (y : S1x4.Idx)
    (h : (y 1).val = j) :
    View.canon (⟨Rect.unit (s := S1x4) ![0, j] ![1, 1] inb, fun _ => v⟩ :: L) y = v := by
  have hm : y ∈ (Rect.unit (s := S1x4) ![0, j] ![1, 1] inb).set := by
    rw [Rect.mem_set_unit]
    intro a
    have h0 : (y 0).val = 0 := by have := (y 0).isLt; change (y 0).val < 1 at this; omega
    fin_cases a
    · exact ⟨Nat.zero_le _, by change (y 0).val < 0 + 1; omega⟩
    · exact ⟨h.ge, by change (y 1).val < j + 1; omega⟩
  obtain ⟨x, rfl⟩ : ∃ x, (Rect.unit (s := S1x4) ![0, j] ![1, 1] inb).emb x = y := LoadRect.exists_idx_of_mem _ hm
  exact View.canon_cons_emb _ _ _ x

/-- A scalar stored at position `j` does not touch the other positions. -/
theorem canon_miss (j : ℕ) (inb) (v : Ideal .f32) (L : List (View.Piece (Elt Ideal) S1x4 .f32)) (y : S1x4.Idx)
    (h : (y 1).val ≠ j) :
    View.canon (⟨Rect.unit (s := S1x4) ![0, j] ![1, 1] inb, fun _ => v⟩ :: L) y = View.canon L y := by
  refine View.canon_cons_of_not_mem _ _ ?_
  rw [Rect.mem_set_unit]
  intro hm
  have := hm 1
  change j ≤ (y 1).val ∧ (y 1).val < j + 1 at this
  omega

/-- Four scalars stored at the four positions fill the row, whatever was stored before. -/
theorem canon_quad (i0 i1 i2 i3) (v0 v1 v2 v3 : Ideal .f32) (L : List (View.Piece (Elt Ideal) S1x4 .f32)) (y : S1x4.Idx) :
    View.canon (⟨Rect.unit (s := S1x4) ![0, 3] ![1, 1] i3, fun _ => v3⟩ ::
      ⟨Rect.unit (s := S1x4) ![0, 2] ![1, 1] i2, fun _ => v2⟩ ::
      ⟨Rect.unit (s := S1x4) ![0, 1] ![1, 1] i1, fun _ => v1⟩ ::
      ⟨Rect.unit (s := S1x4) ![0, 0] ![1, 1] i0, fun _ => v0⟩ :: L) y = quad ![v0, v1, v2, v3] y := by
  have hlt : (y 1).val < 4 := (y 1).isLt
  have hq : ∀ j : Fin 4, (y 1).val = j.val → quad ![v0, v1, v2, v3] y = ![v0, v1, v2, v3] j := fun j h =>
    congrArg _ (Fin.ext h)
  by_cases h3 : (y 1).val = 3
  · rw [canon_hit 3 _ _ _ _ h3, hq 3 h3]; rfl
  rw [canon_miss 3 _ _ _ _ h3]
  by_cases h2 : (y 1).val = 2
  · rw [canon_hit 2 _ _ _ _ h2, hq 2 h2]; rfl
  rw [canon_miss 2 _ _ _ _ h2]
  by_cases h1 : (y 1).val = 1
  · rw [canon_hit 1 _ _ _ _ h1, hq 1 h1]; rfl
  rw [canon_miss 1 _ _ _ _ h1]
  have h0 : (y 1).val = 0 := by omega
  rw [canon_hit 0 _ _ _ _ h0, hq 0 h0]; rfl

/-- Rows with equal entries are equal. -/
theorem quad_ext {v0 v1 v2 v3 : EReal} {w : Fin 4 → EReal} (e0 : v0 = w 0) (e1 : v1 = w 1) (e2 : v2 = w 2) (e3 : v3 = w 3)
    (y : S1x4.Idx) : quad ![v0, v1, v2, v3] y = quad w y := by
  subst e0 e1 e2 e3
  refine congrFun (congrArg quad (funext fun j => ?_)) y
  fin_cases j <;> rfl

/-- The four totals of one batch: coarse against truth, fine against truth, and truth against each of the two. -/
def addends (c : Vec Ideal S1x1024x3 .f32) (f g : Vec Ideal S1x4096x3 .f32) : Fin 4 → EReal :=
  ![total (ptC c) (ptF g), total (ptF f) (ptF g), total (ptF g) (ptC c), total (ptF g) (ptF f)]

/-- The first addend is the coarse points' roots against the true cloud. -/
theorem addends_0 (c : Vec Ideal S1x1024x3 .f32) (f g : Vec Ideal S1x4096x3 .f32) : addends c f g 0 = total (ptC c) (ptF g) := rfl
/-- The second addend is the fine points' roots against the true cloud. -/
theorem addends_1 (c : Vec Ideal S1x1024x3 .f32) (f g : Vec Ideal S1x4096x3 .f32) : addends c f g 1 = total (ptF f) (ptF g) := rfl
/-- The third addend is the true points' roots against the coarse cloud. -/
theorem addends_2 (c : Vec Ideal S1x1024x3 .f32) (f g : Vec Ideal S1x4096x3 .f32) : addends c f g 2 = total (ptF g) (ptC c) := rfl
/-- The fourth addend is the true points' roots against the fine cloud. -/
theorem addends_3 (c : Vec Ideal S1x1024x3 .f32) (f g : Vec Ideal S1x4096x3 .f32) : addends c f g 3 = total (ptF g) (ptF f) := rfl

/-- Multiplication of scalars is that of extended reals. -/
theorem scalar_mulf (x y : Ideal .f32) : Scalar.mulf x y = (x * y : EReal) := rfl

/-- Division of scalars is the ideal one. -/
theorem scalar_divf (x y : Ideal .f32) : Scalar.divf x y = Ideal.div x y := rfl

/-- The body's `0.1` is the tenth of the loss. -/
theorem scalar_tenth : (Scalar.ofBits .f32 0x3DCCCCCD#32 : Ideal .f32) = tenth := rfl
/-- The body's 4096 is the count of the loss. -/
theorem scalar_n4096 : (Scalar.ofBits .f32 0x45800000#32 : Ideal .f32) = n4096 := rfl
/-- The body's 16384 is the count of the loss. -/
theorem scalar_n16384 : (Scalar.ofBits .f32 0x46800000#32 : Ideal .f32) = n16384 := rfl

/-- The final combination of the sums is the loss. -/
theorem pay3_eq {s : Fin 4 → EReal} {alpha : EReal} {a0 a1 a2 a3 al : Ideal .f32} (h2 : a2 = s 2) (h0 : a0 = s 0) (h3 : a3 = s 3)
    (h1 : a1 = s 1) (hal : al = alpha) : k0_pay3 (F := Ideal) a2 a0 a3 a1 al = lossOf s alpha := by
  subst h2 h0 h3 h1 hal
  unfold k0_pay3 lossOf
  simp only [scalar_addf, scalar_mulf, scalar_divf, scalar_tenth, scalar_n4096, scalar_n16384]

/-- A scalar load from the row reads the entry. -/
theorem ld_row (xs : Vec Ideal S1x4 .f32) (j : Fin 4) (inb) (h) :
    View.ld (Val := Elt Ideal) xs (Rect.unit (s := S1x4) ![0, j.val] ![1, 1] inb) (Shape.Idx.first h) = entry xs j := by
  refine congrArg xs (funext fun a => ?_)
  fin_cases a <;> rfl

section
variable (d : Dev nD) (i : grid0.Coords) (a1 : Memref sig .tc .vmem S1x1024x3 .f32) (h1 : a1.IsWhole)
    (a2 : Memref sig .tc .vmem S1x4096x3 .f32) (h2 : a2.IsWhole) (a3 : Memref sig .tc .vmem S1x4096x3 .f32) (h3 : a3.IsWhole)
    (a4 : Memref sig .tc .smem S1x1 .f32) (h4 : a4.IsWhole) (a5 : Memref sig .tc .smem S1x1 .f32) (h5 : a5.IsWhole)
    (a6 : Memref sig .tc .smem S1x4 .f32) (h6 : a6.IsWhole)
    {c : Vec Ideal S1x1024x3 .f32} {f g : Vec Ideal S1x4096x3 .f32} (x : Vec Ideal S1x1 .f32) (xs : Vec Ideal S1x4 .f32)

/-- A middle point adds the totals of its batch to the sums. -/
theorem step_mid (hc : FiniteC c) (hf : FiniteF f) (hg : FiniteF g) (hc0 : ¬cond0_0 i) (hc1 : ¬cond0_1 i) :
    sout0_B_0 d i a1 h1 a2 h2 a3 h3 a4 h4 a5 h5 a6 h6 hc0 hc1 c f g x xs = quad fun j => entry xs j + addends c f g j := by
  funext y
  frame_out
  refine (canon_quad _ _ _ _ _ _ _ _ _ y).trans ?_
  refine quad_ext ?_ ?_ ?_ ?_ y
  · exact (add0 hc hg _).trans (congrArg (· + _) (ld_row xs 0 _ _))
  · exact (add1 hf hg _).trans (congrArg (· + _) (ld_row xs 1 _ _))
  · exact (add2 hc hg _).trans (congrArg (· + _) (ld_row xs 2 _ _))
  · exact (add3 hf hg _).trans (congrArg (· + _) (ld_row xs 3 _ _))

/-- The stored zero word is the number zero. -/
theorem word_zero : (FloatOps.ofBits .f32 0#32 : Ideal .f32) = (0 : EReal) := scalar_zero

/-- The first point leaves the totals of its batch, added to the stored zero. -/
theorem step_first_word (hc : FiniteC c) (hf : FiniteF f) (hg : FiniteF g) (hc0 : cond0_0 i) (hc1 : ¬cond0_1 i) :
    sout0_A_0 d i a1 h1 a2 h2 a3 h3 a4 h4 a5 h5 a6 h6 hc0 hc1 c f g x =
      quad fun j => (FloatOps.ofBits .f32 0#32 : Ideal .f32) + addends c f g j := by
  funext y
  frame_out
  generalize (FloatOps.ofBits .f32 0#32 : Ideal .f32) = z
  refine (canon_quad _ _ _ _ _ _ _ _ _ y).trans ?_
  refine quad_ext ?_ ?_ ?_ ?_ y
  · rw [addends_0]
    exact add0 hc hg z
  · rw [addends_1]
    exact add1 hf hg z
  · rw [addends_2]
    exact add2 hc hg z
  · rw [addends_3]
    exact add3 hf hg z

/-- The first point leaves the totals of its batch. -/
theorem step_first (hc : FiniteC c) (hf : FiniteF f) (hg : FiniteF g) (hc0 : cond0_0 i) (hc1 : ¬cond0_1 i) :
    sout0_A_0 d i a1 h1 a2 h2 a3 h3 a4 h4 a5 h5 a6 h6 hc0 hc1 c f g x = quad fun j => 0 + addends c f g j :=
  (step_first_word d i a1 h1 a2 h2 a3 h3 a4 h4 a5 h5 a6 h6 x hc hf hg hc0 hc1).trans
    (congrArg (fun z : EReal => quad fun j => z + addends c f g j) word_zero)

/-- The last point stores the loss of the sums after its own batch. -/
theorem step_last (hc : FiniteC c) (hf : FiniteF f) (hg : FiniteF g) (hc0 : ¬cond0_0 i) (hc1 : cond0_1 i) (y : S1x1.Idx) :
    out0_C_4 d i a1 h1 a2 h2 a3 h3 a4 h4 a5 h5 a6 h6 hc0 hc1 c f g x xs y =
      lossOf (fun j => entry xs j + addends c f g j) (x (ix2 0 0)) := by
  frame_out
  refine pay3_eq ?_ ?_ ?_ ?_ ?_
  · exact (add2 hc hg _).trans (congrArg (· + _) (ld_row xs 2 _ _))
  · exact (add0 hc hg _).trans (congrArg (· + _) (ld_row xs 0 _ _))
  · exact (add3 hf hg _).trans (congrArg (· + _) (ld_row xs 3 _ _))
  · exact (add1 hf hg _).trans (congrArg (· + _) (ld_row xs 1 _ _))
  · refine congrArg x (funext fun a => ?_)
    fin_cases a <;> rfl
end
end Cert.Chamfer
end
-- ==== Proof.Array.lean ====
/- What the result array holds: the loss of the four sums over all batches. -/
module

public import proofs.«01_k».proof.Proof.Step

@[expose] public section

set_option maxRecDepth 16384

noncomputable section

namespace Cert.Chamfer

open Cert.KernelIdeal Cert.KernelIdeal.Gen Idealize.ShloMosaic Idealize.ShloMosaic.TcCoe Idealize.SL.Sem

variable (m : (ℓ : Loc nD τ sig) → Buf (Elt Ideal) ℓ) (c : Dev nD)

/-- The coarse cloud. -/
abbrev coarse : Vec Ideal S4x1024x3 .f32 := m ((c : Thread nD τ).loc main_arg0)
/-- The fine cloud. -/
abbrev fine : Vec Ideal S4x4096x3 .f32 := m ((c : Thread nD τ).loc main_arg1)
/-- The true cloud. -/
abbrev truth : Vec Ideal S4x4096x3 .f32 := m ((c : Thread nD τ).loc main_arg2)
/-- The weight of the fine cloud's part. -/
abbrev weight : EReal := (m ((c : Thread nD τ).loc main_arg3) : Vec Ideal S_ .f32) ix0

/-- The three clouds have real coordinates. -/
structure FiniteM : Prop where
  coarse : FiniteA (coarse m c)
  fine : FiniteA (fine m c)
  truth : FiniteA (truth m c)

/-- The block that each input window shows at a grid point: the batch of that number; the weight's block never moves. -/
theorem idx : ∀ t : Fin cfg0.N, win0_0.index t = ![t.val, 0, 0] ∧ win0_1.index t = ![t.val, 0, 0]
    ∧ win0_2.index t = ![t.val, 0, 0] ∧ win0_3.index t = ![0, 0] :=
  (by decide +kernel : ∀ t : Fin grid0.N, _)

/-- The coarse block of point `t` holds the points of batch `t`. -/
theorem blk_coarse (t : Fin cfg0.N) (b : Fin 4) (h : b.val = t.val) : ptC (iblk m c 0 t) = pts (coarse m c) b := by
  funext n k
  show (iblk m c 0 t : Vec Ideal S1x1024x3 .f32) (ix3 0 n k) = m ((c : Thread nD τ).loc main_arg0) (ix3 b n k)
  blk_ext [iblk, V, idx t]

/-- The fine block of point `t` holds the points of batch `t`. -/
theorem blk_fine (t : Fin cfg0.N) (b : Fin 4) (h : b.val = t.val) : ptF (iblk m c 1 t) = pts (fine m c) b := by
  funext n k
  show (iblk m c 1 t : Vec Ideal S1x4096x3 .f32) (ix3 0 n k) = m ((c : Thread nD τ).loc main_arg1) (ix3 b n k)
  blk_ext [iblk, V, idx t]

/-- The true block of point `t` holds the points of batch `t`. -/
theorem blk_truth (t : Fin cfg0.N) (b : Fin 4) (h : b.val = t.val) : ptF (iblk m c 2 t) = pts (truth m c) b := by
  funext n k
  show (iblk m c 2 t : Vec Ideal S1x4096x3 .f32) (ix3 0 n k) = m ((c : Thread nD τ).loc main_arg2) (ix3 b n k)
  blk_ext [iblk, V, idx t]

/-- The weight's block holds the weight. -/
theorem blk_weight (t : Fin cfg0.N) : (iblk m c 3 t : Vec Ideal S1x1 .f32) (ix2 0 0) = weight m c := by
  show (iblk m c 3 t : Vec Ideal S1x1 .f32) (ix2 0 0) = (m ((c : Thread nD τ).loc main_arg3) : Vec Ideal S_ .f32) ix0
  blk_ext! [iblk, V, idx t]

/-- What point `t` adds is batch `t`'s totals. -/
theorem addends_eq (t : Fin cfg0.N) (b : Fin 4) (h : b.val = t.val) :
    addends (iblk m c 0 t) (iblk m c 1 t) (iblk m c 2 t) = batch (coarse m c) (fine m c) (truth m c) b := by
  unfold addends batch
  rw [blk_coarse m c t b h, blk_fine m c t b h, blk_truth m c t b h]

variable {m c}

/-- The coarse block of a grid point has real coordinates. -/
theorem finC (hm : FiniteM m c) (t : Fin cfg0.N) (b : Fin 4) (h : b.val = t.val) : FiniteC (iblk m c 0 t) := fun n => by
  rw [blk_coarse m c t b h]; exact hm.coarse b n

/-- The fine block of a grid point has real coordinates. -/
theorem finF (hm : FiniteM m c) (t : Fin cfg0.N) (b : Fin 4) (h : b.val = t.val) : FiniteF (iblk m c 1 t) := fun n => by
  rw [blk_fine m c t b h]; exact hm.fine b n

/-- The true block of a grid point has real coordinates. -/
theorem finT (hm : FiniteM m c) (t : Fin cfg0.N) (b : Fin 4) (h : b.val = t.val) : FiniteF (iblk m c 2 t) := fun n => by
  rw [blk_truth m c t b h]; exact hm.truth b n

/-- The row of sums after the first point. -/
theorem row_first (hm : FiniteM m c) (t : Fin cfg0.N) (b : Fin 4) (h : b.val = t.val) (h0 : t.val % 4 = 0) (h1 : ¬t.val % 4 = 3) :
    (outsAt0 m c t.val t.isLt).2 = quad fun j => 0 + batch (coarse m c) (fine m c) (truth m c) b j := by
  rw [← addends_eq m c t b h]
  exact (congrArg Prod.snd (outsAt0_A m c t h0 h1)).trans
    (step_first c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 3 t)
      (finC hm t b h) (finF hm t b h) (finT hm t b h) ((hcond0_0 t).mpr h0) (fun h => h1 ((hcond0_1 t).mp h)))

/-- The row of sums after a middle point, from the row before it. -/
theorem row_mid (hm : FiniteM m c) (t : Fin cfg0.N) (b : Fin 4) (h : b.val = t.val) (h0 : ¬t.val % 4 = 0) (h1 : ¬t.val % 4 = 3)
    {s : Fin 4 → EReal} (hs : (outsAt0 m c (t.val - 1) (Nat.lt_of_le_of_lt (Nat.sub_le _ _) t.isLt)).2 = quad s) :
    (outsAt0 m c t.val t.isLt).2 = quad fun j => s j + batch (coarse m c) (fine m c) (truth m c) b j := by
  rw [← addends_eq m c t b h]
  refine (congrArg Prod.snd (outsAt0_B m c t h0 h1)).trans ?_
  refine (step_mid c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 3 t) _
      (finC hm t b h) (finF hm t b h) (finT hm t b h) (fun h => h0 ((hcond0_0 t).mp h)) (fun h => h1 ((hcond0_1 t).mp h))).trans ?_
  rw [hs]
  rfl

/-- What the last point leaves in the result's buffer, from the row before it. -/
theorem out_last (hm : FiniteM m c) (t : Fin cfg0.N) (b : Fin 4) (h : b.val = t.val) (h0 : ¬t.val % 4 = 0) (h1 : t.val % 4 = 3)
    {s : Fin 4 → EReal} (hs : (outsAt0 m c (t.val - 1) (Nat.lt_of_le_of_lt (Nat.sub_le _ _) t.isLt)).2 = quad s) (y : S1x1.Idx) :
    (outsAt0 m c t.val t.isLt).1 y = lossOf (fun j => s j + batch (coarse m c) (fine m c) (truth m c) b j) (weight m c) := by
  rw [← addends_eq m c t b h]
  refine (congrFun (congrArg Prod.fst (outsAt0_C m c t h0 h1)) y).trans ?_
  refine (step_last c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 3 t) _
      (finC hm t b h) (finF hm t b h) (finT hm t b h) (fun h => h0 ((hcond0_0 t).mp h)) ((hcond0_1 t).mpr h1) y).trans ?_
  rw [hs, blk_weight]
  rfl

/-- After the run, the result array holds the loss. -/
theorem result_eq (hm : FiniteM m c) :
    (dats m 0 c).arrAt 4 cfg0.N = fun _ => loss (coarse m c) (fine m c) (truth m c) (weight m c) := by
  refine (dats m 0 c).arrAt_eq_of_after_last 4 t0_3 (by decide +kernel) _ fun j => ?_
  blk_simp
  rw [after0_4]
  have r0 := row_first hm t0_0 0 rfl (by decide) (by decide)
  have r1 := row_mid hm t0_1 1 rfl (by decide) (by decide) r0
  have r2 := row_mid hm t0_2 2 rfl (by decide) (by decide) r1
  refine (out_last hm t0_3 3 rfl (by decide) (by decide) r2 j).trans ?_
  unfold loss
  refine congrArg (lossOf · _) (funext fun i => ?_)
  rw [Fin.sum_univ_four, zero_add]

end Cert.Chamfer

end
-- ==== Proof.Reference.lean ====
/- What the reference computes: the loss, as the same function of the three arrays of points. -/
module

public import proofs.«01_k».proof.Proof.Clouds
public import proofs.«01_k».proof.Proof.Gen.ReferenceIdeal.Run

@[expose] public section

set_option maxRecDepth 16384

noncomputable section

namespace Cert.Chamfer

open Idealize.ShloMosaic Idealize.ShloMosaic.TcCoe Idealize.SL.Sem

section
variable {N M : ℕ}

/-- The squared lengths of all points. -/
theorem host_sq (x : Vec Ideal ⟨3, ![4, N, 3]⟩ .f32) (h : Shape.ReducesTo (⟨3, ![4, N, 3]⟩) [2] ⟨2, ![4, N]⟩)
    (hu : 0 < (⟨0, ![]⟩ : Shape).numel) (b : Fin 4) (n : Fin N) :
    Host.reduceAdd (mulf x x) (constant (F := Ideal) ⟨0, ![]⟩ .f32 0x00000000#32) h hu (ix2 b n) = sq (pts x b n) := by
  pointwise
  rfl

/-- The inner products of the points of two arrays, batch by batch. -/
theorem host_dot (x : Vec Ideal ⟨3, ![4, N, 3]⟩ .f32) (y : Vec Ideal ⟨3, ![4, M, 3]⟩ .f32)
    (wf : DotDims.WF (⟨3, ![4, N, 3]⟩) (⟨3, ![4, M, 3]⟩) (⟨3, ![4, N, M]⟩) [2] [2] [1] [1] [0] [0])
    (b : Fin 4) (n : Fin N) (k : Fin M) :
    Host.dotGeneral (F := Ideal) (φ₁ := .f32) (φ₂ := .f32) ⟨[2], [2], [1], [1], [0], [0], wf⟩ none x y (ix3 b n k) =
      dot (pts x b n) (pts y b k) := by
  pointwise
  unfold dot pts
  refine Finset.sum_congr rfl fun i _ => congrArg₂ (· * ·) (congrArg x (funext fun a => ?_)) (congrArg y (funext fun a => ?_))
  · fin_cases a <;> rfl
  · fin_cases a <;> rfl

/-- A value per point of the first array, spread over the second array's points. -/
theorem host_rows (hN : N ≠ 1) (v : FVec Ideal ⟨2, ![4, N]⟩ .f32)
    (h1 : Shape.BroadcastsInDim (⟨2, ![4, N]⟩) ⟨3, ![4, N, 1]⟩ (![0, 1] : Fin 2 → Fin 3))
    (h2 : Shape.BroadcastsInDim (⟨3, ![4, N, 1]⟩) ⟨3, ![4, N, M]⟩ (![0, 1, 2] : Fin 3 → Fin 3)) (b : Fin 4) (n : Fin N) (k : Fin M) :
    broadcastInDim ⟨3, ![4, N, M]⟩ ![0, 1, 2] h2 (broadcastInDim ⟨3, ![4, N, 1]⟩ ![0, 1] h1 v) (ix3 b n k) = v (ix2 b n) := by
  pointwise
  refine congrArg v (funext fun a => Fin.ext ?_)
  fin_cases a
  · rfl
  · simp [Shape.Idx.norm, hN]

/-- A value per point of the second array, spread over the first array's points. -/
theorem host_cols (hM : M ≠ 1) (v : FVec Ideal ⟨2, ![4, M]⟩ .f32)
    (h1 : Shape.BroadcastsInDim (⟨2, ![4, M]⟩) ⟨3, ![4, 1, M]⟩ (![0, 2] : Fin 2 → Fin 3))
    (h2 : Shape.BroadcastsInDim (⟨3, ![4, 1, M]⟩) ⟨3, ![4, N, M]⟩ (![0, 1, 2] : Fin 3 → Fin 3)) (b : Fin 4) (n : Fin N) (k : Fin M) :
    broadcastInDim ⟨3, ![4, N, M]⟩ ![0, 1, 2] h2 (broadcastInDim ⟨3, ![4, 1, M]⟩ ![0, 2] h1 v) (ix3 b n k) = v (ix2 b k) := by
  pointwise
  refine congrArg v (funext fun a => Fin.ext ?_)
  fin_cases a
  · rfl
  · simp [Shape.Idx.norm, hM]

/-- The clamped combination of the two squared lengths and the inner product. -/
theorem host_clamp (A B G : FVec Ideal ⟨3, ![4, N, M]⟩ .f32)
    (h : Shape.BroadcastsInDim (⟨0, ![]⟩) ⟨3, ![4, N, M]⟩ (![] : Fin 0 → Fin 3)) (b : Fin 4) (n : Fin N) (k : Fin M) :
    maximumf (subf (addf A B) (mulf (broadcastInDim ⟨3, ![4, N, M]⟩ ![] h (constant (F := Ideal) ⟨0, ![]⟩ .f32 0x40000000#32)) G))
      (broadcastInDim ⟨3, ![4, N, M]⟩ ![] h (constant (F := Ideal) ⟨0, ![]⟩ .f32 0x00000000#32)) (ix3 b n k) =
      max (A (ix3 b n k) + B (ix3 b n k) - two * G (ix3 b n k)) 0 := by
  pointwise
  rfl

/-- The minimum over the second array's points. -/
theorem host_min (v : FVec Ideal ⟨3, ![4, N, M]⟩ .f32) (h : Shape.ReducesTo (⟨3, ![4, N, M]⟩) [2] ⟨2, ![4, N]⟩)
    (hu : 0 < (⟨0, ![]⟩ : Shape).numel) (b : Fin 4) (n : Fin N) :
    Host.reduce FloatOps.minimumf v (constant (F := Ideal) ⟨0, ![]⟩ .f32 0x7F800000#32) h hu (ix2 b n) =
      Finset.univ.fold min ⊤ fun k => v (ix3 b n k) := by
  pointwise
  rw [posInf_eq]

/-- The root of a value with the guard added. -/
theorem host_root (v : FVec Ideal ⟨2, ![4, N]⟩ .f32)
    (h : Shape.BroadcastsInDim (⟨0, ![]⟩) ⟨2, ![4, N]⟩ (![] : Fin 0 → Fin 2)) (b : Fin 4) (n : Fin N) :
    Host.sqrt (addf v (broadcastInDim ⟨2, ![4, N]⟩ ![] h (constant (F := Ideal) ⟨0, ![]⟩ .f32 0x2B8CBCCC#32))) (ix2 b n) =
      Ideal.sqrt (v (ix2 b n) + eps) := by
  pointwise
  rfl

/-- The sum over all batches and points. -/
theorem host_sum (v : FVec Ideal ⟨2, ![4, N]⟩ .f32) (h : Shape.ReducesTo (⟨2, ![4, N]⟩) [0, 1] ⟨0, ![]⟩)
    (hu : 0 < (⟨0, ![]⟩ : Shape).numel) :
    Host.reduceAdd v (constant (F := Ideal) ⟨0, ![]⟩ .f32 0x00000000#32) h hu ix0 = ∑ b, ∑ n, v (ix2 b n) := by
  pointwise

/-- The reference's operations for one ordered pair of arrays: for every point of the first array the root of its squared
distance to the second, summed. The side conditions of the operations are parameters. -/
def hostSum (x : Vec Ideal ⟨3, ![4, N, 3]⟩ .f32) (y : Vec Ideal ⟨3, ![4, M, 3]⟩ .f32)
    (hx : Shape.ReducesTo (⟨3, ![4, N, 3]⟩) [2] ⟨2, ![4, N]⟩) (hy : Shape.ReducesTo (⟨3, ![4, M, 3]⟩) [2] ⟨2, ![4, M]⟩)
    (hu : 0 < (⟨0, ![]⟩ : Shape).numel)
    (r1 : Shape.BroadcastsInDim (⟨2, ![4, N]⟩) ⟨3, ![4, N, 1]⟩ (![0, 1] : Fin 2 → Fin 3))
    (r2 : Shape.BroadcastsInDim (⟨3, ![4, N, 1]⟩) ⟨3, ![4, N, M]⟩ (![0, 1, 2] : Fin 3 → Fin 3))
    (c1 : Shape.BroadcastsInDim (⟨2, ![4, M]⟩) ⟨3, ![4, 1, M]⟩ (![0, 2] : Fin 2 → Fin 3))
    (c2 : Shape.BroadcastsInDim (⟨3, ![4, 1, M]⟩) ⟨3, ![4, N, M]⟩ (![0, 1, 2] : Fin 3 → Fin 3))
    (k3 : Shape.BroadcastsInDim (⟨0, ![]⟩) ⟨3, ![4, N, M]⟩ (![] : Fin 0 → Fin 3))
    (wf : DotDims.WF (⟨3, ![4, N, 3]⟩) (⟨3, ![4, M, 3]⟩) (⟨3, ![4, N, M]⟩) [2] [2] [1] [1] [0] [0])
    (hd : Shape.ReducesTo (⟨3, ![4, N, M]⟩) [2] ⟨2, ![4, N]⟩)
    (k2 : Shape.BroadcastsInDim (⟨0, ![]⟩) ⟨2, ![4, N]⟩ (![] : Fin 0 → Fin 2))
    (hs : Shape.ReducesTo (⟨2, ![4, N]⟩) [0, 1] ⟨0, ![]⟩) : FVec Ideal ⟨0, ![]⟩ .f32 :=
  Host.reduceAdd (Host.sqrt (addf (Host.reduce FloatOps.minimumf (maximumf (subf (addf
      (broadcastInDim ⟨3, ![4, N, M]⟩ ![0, 1, 2] r2 (broadcastInDim ⟨3, ![4, N, 1]⟩ ![0, 1] r1
        (Host.reduceAdd (mulf x x) (constant (F := Ideal) ⟨0, ![]⟩ .f32 0x00000000#32) hx hu)))
      (broadcastInDim ⟨3, ![4, N, M]⟩ ![0, 1, 2] c2 (broadcastInDim ⟨3, ![4, 1, M]⟩ ![0, 2] c1
        (Host.reduceAdd (mulf y y) (constant (F := Ideal) ⟨0, ![]⟩ .f32 0x00000000#32) hy hu))))
      (mulf (broadcastInDim ⟨3, ![4, N, M]⟩ ![] k3 (constant (F := Ideal) ⟨0, ![]⟩ .f32 0x40000000#32))
        (Host.dotGeneral (F := Ideal) (φ₁ := .f32) (φ₂ := .f32) ⟨[2], [2], [1], [1], [0], [0], wf⟩ none x y)))
      (broadcastInDim ⟨3, ![4, N, M]⟩ ![] k3 (constant (F := Ideal) ⟨0, ![]⟩ .f32 0x00000000#32)))
      (constant (F := Ideal) ⟨0, ![]⟩ .f32 0x7F800000#32) hd hu)
    (broadcastInDim ⟨2, ![4, N]⟩ ![] k2 (constant (F := Ideal) ⟨0, ![]⟩ .f32 0x2B8CBCCC#32))))
    (constant (F := Ideal) ⟨0, ![]⟩ .f32 0x00000000#32) hs hu

/-- Those operations compute the totals of all batches, summed. -/
theorem hostSum_eq (hN : N ≠ 1) (hM : M ≠ 1) (x : Vec Ideal ⟨3, ![4, N, 3]⟩ .f32) (y : Vec Ideal ⟨3, ![4, M, 3]⟩ .f32)
    (hx hy hu r1 r2 c1 c2 k3 wf hd k2 hs) :
    hostSum x y hx hy hu r1 r2 c1 c2 k3 wf hd k2 hs ix0 = ∑ b, total (pts x b) (pts y b) := by
  unfold hostSum total rootNearest nearest
  rw [host_sum]
  refine Finset.sum_congr rfl fun b _ => Finset.sum_congr rfl fun n _ => ?_
  rw [host_root, host_min]
  refine congrArg (fun t => Ideal.sqrt (t + eps)) (congrArg (Finset.fold min ⊤ · Finset.univ) (funext fun k => ?_))
  rw [host_clamp, host_rows hN, host_cols hM, host_sq, host_sq, host_dot]
  rfl

end

/-- The loss with each tenth taken after the division. -/
theorem lossOf_eq (s : Fin 4 → EReal) (alpha : EReal) :
    lossOf s alpha = Ideal.div (s 2) n16384 + Ideal.div (s 0) n4096 * tenth +
      alpha * (Ideal.div (s 3) n16384 + Ideal.div (s 1) n16384 * tenth) := by
  unfold lossOf
  rw [n4096_eq, n16384_eq, tenth_div _ _ (by norm_num), tenth_div _ _ (by norm_num)]

/-- The last combination of the four sums and the weight, on arrays holding one number. -/
theorem host_combine (s2 s0 s3 s1 al : FVec Ideal ⟨0, ![]⟩ .f32) (h : Shape.ShapeCasts ⟨0, ![]⟩ ⟨2, ![1, 1]⟩) (j : (⟨2, ![1, 1]⟩ : Shape).Idx) :
    shapeCast ⟨2, ![1, 1]⟩ (addf
      (addf (Host.divf s2 (constant (F := Ideal) ⟨0, ![]⟩ .f32 0x46800000#32))
        (mulf (Host.divf s0 (constant (F := Ideal) ⟨0, ![]⟩ .f32 0x45800000#32)) (constant (F := Ideal) ⟨0, ![]⟩ .f32 0x3DCCCCCD#32)))
      (mulf al (addf (Host.divf s3 (constant (F := Ideal) ⟨0, ![]⟩ .f32 0x46800000#32))
        (mulf (Host.divf s1 (constant (F := Ideal) ⟨0, ![]⟩ .f32 0x46800000#32)) (constant (F := Ideal) ⟨0, ![]⟩ .f32 0x3DCCCCCD#32))))) h j =
      lossOf ![s0 ix0, s1 ix0, s2 ix0, s3 ix0] (al ix0) := by
  pointwise
  rw [lossOf_eq]
  rfl

section
open Cert.ReferenceIdeal Cert.ReferenceIdeal.Gen

/-- The reference's result is the loss of its arguments. -/
theorem reference_eq (m : (ℓ : Loc nD τ sig) → Buf (Elt Ideal) ℓ) (c : Dev nD) :
    Cert.ReferenceIdeal.Value.res_main_v90 m c = fun _ =>
      loss (m ((c : Thread nD τ).loc main_arg0)) (m ((c : Thread nD τ).loc main_arg1)) (m ((c : Thread nD τ).loc main_arg2))
        ((m ((c : Thread nD τ).loc main_arg3) : Vec Ideal S_ .f32) ix0) := by
  funext j
  unfold Cert.ReferenceIdeal.Value.res_main_v90
  refine (host_combine (hostSum (N := 4096) (M := 1024) (m ((c : Thread nD τ).loc main_arg2)) (m ((c : Thread nD τ).loc main_arg0))
      (by decide) (by decide) (by decide) (by decide) (by decide) (by decide) (by decide) (by decide) (by decide) (by decide) (by decide) (by decide))
    (hostSum (N := 1024) (M := 4096) (m ((c : Thread nD τ).loc main_arg0)) (m ((c : Thread nD τ).loc main_arg2))
      (by decide) (by decide) (by decide) (by decide) (by decide) (by decide) (by decide) (by decide) (by decide) (by decide) (by decide) (by decide))
    (hostSum (N := 4096) (M := 4096) (m ((c : Thread nD τ).loc main_arg2)) (m ((c : Thread nD τ).loc main_arg1))
      (by decide) (by decide) (by decide) (by decide) (by decide) (by decide) (by decide) (by decide) (by decide) (by decide) (by decide) (by decide))
    (hostSum (N := 4096) (M := 4096) (m ((c : Thread nD τ).loc main_arg1)) (m ((c : Thread nD τ).loc main_arg2))
      (by decide) (by decide) (by decide) (by decide) (by decide) (by decide) (by decide) (by decide) (by decide) (by decide) (by decide) (by decide))
    (m ((c : Thread nD τ).loc main_arg3)) _ j).trans ?_
  rw [hostSum_eq (by decide) (by decide), hostSum_eq (by decide) (by decide), hostSum_eq (by decide) (by decide),
    hostSum_eq (by decide) (by decide)]
  unfold loss
  refine congrArg (lossOf · _) (funext fun i => ?_)
  fin_cases i <;> rfl
end

end Cert.Chamfer

end
-- ==== Proof.Finite.lean ====
/- What the precondition says: every coordinate of the three clouds is a real number. -/
module

public import proofs.«01_k».proof.Proof.Array
public import proofs.«01_k».proof.Defs

@[expose] public section

noncomputable section

namespace Cert.Chamfer

open Idealize.ShloMosaic Idealize.ShloMosaic.TcCoe

/-- The side conditions of the precondition's own operations. -/
theorem preFacts : Cert.Pre_finite.Facts := ⟨by decide, by decide⟩

/-- A number whose absolute value is below infinity is real. -/
theorem real_of_abs (a : EReal) (h : max a (-a) < ⊤) : ∃ r : ℝ, a = (r : EReal) := by
  have h1 : a ≠ ⊤ := fun e => by simp [e] at h
  have h2 : a ≠ ⊥ := fun e => by simp [e] at h
  exact ⟨a.toReal, (EReal.coe_toReal h1 h2).symm⟩

/-- Where the precondition's comparison holds, the array's entry is real. -/
theorem real_of_mark {s : Shape} (x : FVec Ideal s .f32)
    (h : Shape.BroadcastsInDim (⟨0, ![]⟩) s (![] : Fin 0 → Fin s.rank)) (i : s.Idx)
    (e : cmpf .olt (Host.absf x) (broadcastInDim s ![] h (constant (F := Ideal) ⟨0, ![]⟩ .f32 0x7F800000#32)) i = 1#1) :
    ∃ r : ℝ, x i = (r : EReal) := by
  pointwise at e
  rw [posInf_eq] at e
  refine real_of_abs (x i) ?_
  by_contra hn
  rw [decide_eq_false (p := FloatOps.absf (x i) < (⊤ : EReal)) hn] at e
  exact absurd e (by decide)

/-- Where the comparison holds everywhere, the array's points are real. -/
theorem finite_of_marks {N : ℕ} (x : Vec Ideal ⟨3, ![4, N, 3]⟩ .f32)
    (h : Shape.BroadcastsInDim (⟨0, ![]⟩) (⟨3, ![4, N, 3]⟩) (![] : Fin 0 → Fin 3))
    (e : cmpf .olt (Host.absf x) (broadcastInDim (⟨3, ![4, N, 3]⟩ : Shape) ![] h
      (constant (F := Ideal) ⟨0, ![]⟩ .f32 0x7F800000#32)) = fun _ => 1#1) : FiniteA x := fun b n => by
  have hr := fun k : Fin 3 => real_of_mark x h (ix3 b n k) (congrFun e _)
  choose r hr using hr
  exact ⟨r, hr⟩

/-- Under the precondition the three clouds are real. -/
theorem finite_of_pre (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : FiniteM m c where
  coarse := finite_of_marks _ _ (h c).1
  fine := finite_of_marks _ _ (h c).2.1
  truth := finite_of_marks _ _ (h c).2.2

end Cert.Chamfer

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments, and leaves every semaphore at zero: it has none. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0 :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories that agree on the arguments, and real coordinates, the kernel's result is the reference's. -/
theorem equal_results : Cert.algebraic_KernelIdeal_ReferenceIdeal_pre_finite
    (hKernelIdeal := Cert.KernelIdeal.Gen.facts) (hReferenceIdeal := Cert.ReferenceIdeal.Gen.facts)
    (hPre_finite := Cert.Chamfer.preFacts) := by
  intro m ρ m' ρ' hpre hagree
  refine ⟨fun c => fun _ => Cert.Chamfer.loss (Cert.Chamfer.coarse m c) (Cert.Chamfer.fine m c) (Cert.Chamfer.truth m c)
      (Cert.Chamfer.weight m c), ?_, ?_⟩
  · exact (θ_run Cert.KernelIdeal.defs _ _).mono
      (fun _ h c => ⟨(h c).1.trans (Cert.Chamfer.result_eq (Cert.Chamfer.finite_of_pre m hpre c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.Chamfer.reference_eq, (hagree c).1, (hagree c).2.1, (hagree c).2.2.1, (hagree c).2.2.2]
    rfl

/-- Everything the certificate claims. -/
theorem claim : Cert.Claim :=
  ⟨Cert.Kernel.Gen.facts, Cert.KernelIdeal.Gen.facts, Cert.ReferenceIdeal.Gen.facts, Cert.Chamfer.preFacts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    IdealRules.named_const.statement Cert.KernelIdeal.κ "mask" .f32 0xF149F2CA#32 ⊥ rfl,
    equal_results⟩

end Cert.Proof

end
